-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4x2048x1024 : Shape := ⟨3, ![4, 2048, 1024]⟩
abbrev S4 : Shape := ⟨1, ![4]⟩
abbrev S1000x128 : Shape := ⟨2, ![1000, 128]⟩
abbrev S1024x128 : Shape := ⟨2, ![1024, 128]⟩
abbrev S1024 : Shape := ⟨1, ![1024]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x1024 .f32) (main_arg1 : IVec S4 32) (main_arg2 : FVec F S1000x128 .f32) (main_arg3 : FVec F S1024x128 .f32) (main_arg4 : FVec F S1024 .f32) (main_arg5 : FVec F S1024 .f32) (main_arg6 : FVec F S1024 .f32) : IVec S4 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 1000#32
  let main_v2 : IVec S4 32 := broadcastInDim S4 ![] bcast_S_S4 main_c_0
  let main_v3 : IVec S4 1 := cmpi .slt main_arg1 main_v2
  let main_v4 : IVec S4 1 := andi main_v1 main_v3
  main_v4
-- ==== Kernel.lean ====
abbrev S4x2048x1024 : Shape := ⟨3, ![4, 2048, 1024]⟩
abbrev S4 : Shape := ⟨1, ![4]⟩
abbrev S1000x128 : Shape := ⟨2, ![1000, 128]⟩
abbrev S1024x128 : Shape := ⟨2, ![1024, 128]⟩
abbrev S1024 : Shape := ⟨1, ![1024]⟩
abbrev S1000x1x128 : Shape := ⟨3, ![1000, 1, 128]⟩
abbrev S128x1024 : Shape := ⟨2, ![128, 1024]⟩
abbrev S1x1024 : Shape := ⟨2, ![1, 1024]⟩
abbrev S1x1x128 : Shape := ⟨3, ![1, 1, 128]⟩
abbrev S1 : Shape := ⟨1, ![1]⟩
abbrev S1x2048x1024 : Shape := ⟨3, ![1, 2048, 1024]⟩
abbrev S1x128 : Shape := ⟨2, ![1, 128]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 12
  | .vmem => 10
  | .smem => 1
  | _ => 0

abbrev bufTy : (tb : Table) → Fin (tcTables nBuf tb) → BufTy
  | .hbm, ⟨0, _⟩ => ⟨S4x2048x1024, .f32⟩
  | .hbm, ⟨1, _⟩ => ⟨S1000x128, .f32⟩
  | .hbm, ⟨2, _⟩ => ⟨S1024x128, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1000x1x128, .f32⟩
  | .hbm, ⟨7, _⟩ => ⟨S128x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4x2048x1024, .f32⟩
  | .local _ .vmem, ⟨0, _⟩ => ⟨S1x1x128, .f32⟩
  | .local _ .vmem, ⟨1, _⟩ => ⟨S1x1x128, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S1x2048x1024, .f32⟩
  | .local _ .vmem, ⟨9, _⟩ => ⟨S1x2048x1024, .f32⟩
  | .local _ .smem, ⟨0, _⟩ => ⟨S4, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x2048x1024 : Shape := ⟨3, ![4, 2048, 1024]⟩
abbrev S4 : Shape := ⟨1, ![4]⟩
abbrev S1000x128 : Shape := ⟨2, ![1000, 128]⟩
abbrev S1024x128 : Shape := ⟨2, ![1024, 128]⟩
abbrev S1024 : Shape := ⟨1, ![1024]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x128 : Shape := ⟨2, ![4, 128]⟩
abbrev S128x1024 : Shape := ⟨2, ![128, 1024]⟩
abbrev S4x1024 : Shape := ⟨2, ![4, 1024]⟩
abbrev S1x1024 : Shape := ⟨2, ![1, 1024]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S1000x128, .f32⟩
  | .hbm, ⟨3, _⟩ => ⟨S1024x128, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S1, .i32⟩
  | .hbm, ⟨16, _⟩ => ⟨S_, .i32⟩
  | .hbm, ⟨17, _⟩ => ⟨S4x1, .i32⟩
  | .hbm, ⟨18, _⟩ => ⟨S4x1, .i1⟩
  | .hbm, ⟨19, _⟩ => ⟨S1x1, .i32⟩
  | .hbm, ⟨20, _⟩ => ⟨S4x1, .i32⟩
  | .hbm, ⟨21, _⟩ => ⟨S4x1, .i1⟩
  | .hbm, ⟨22, _⟩ => ⟨S4x1, .i1⟩
  | .hbm, ⟨23, _⟩ => ⟨S_, .i1⟩
  | .hbm, ⟨24, _⟩ => ⟨S4, .i1⟩
  | .hbm, ⟨25, _⟩ => ⟨S4x128, .f32⟩
  | .hbm, ⟨26, _⟩ => ⟨S4x128, .i1⟩
  | .hbm, ⟨27, _⟩ => ⟨S_, .f32⟩
  | .hbm, ⟨28, _⟩ => ⟨S4x128, .f32⟩
  | .hbm, ⟨29, _⟩ => ⟨S4x128, .f32⟩
  | .hbm, ⟨30, _⟩ => ⟨S128x1024, .f32⟩
  | .hbm, ⟨31, _⟩ => ⟨S4x1024, .f32⟩
  | .hbm, ⟨32, _⟩ => ⟨S1x1024, .f32⟩
  | .hbm, ⟨33, _⟩ => ⟨S4x1024, .f32⟩
  | .hbm, ⟨34, _⟩ => ⟨S4x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S_, .f32⟩
  | .hbm, ⟨42, _⟩ => ⟨S4x2048x1, .f32⟩
  | .hbm, ⟨43, _⟩ => ⟨S4x2048x1, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_3 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩

abbrev nD : Nat := 1
abbrev τ : Topo := Topo.v7x

variable {F : FTy → Type} [FloatOps F]
-- ==== Proof.Ids.lean ====
/- The precondition read: every id is below 1000, and so both programs' pipelines fetch a row of the table that is there. -/
module

public import proofs.«01_k».proof.Defs
public import proofs.«01_k».proof.Proof.Gen.Kernel.Frame
public import proofs.«01_k».proof.Proof.Gen.KernelIdeal.Frame
public import proofs.«01_k».proof.Proof.Gen.Pre_ids_in_range
public import Idealize.ShloMosaic.Lib.StableHlo.Predicate

@[expose] public section

set_option maxRecDepth 16384

noncomputable section

namespace Cert.Ids

open Idealize.ShloMosaic Idealize.ShloMosaic.TcCoe

/-- A word that is at least 0 and less than 1000, both read signed, is a natural number below 1000. -/
theorem word_lt (w : BitVec 32) (h0 : IntOp.cmpi .sge w 0#32 = 1#1) (h1 : IntOp.cmpi .slt w 1000#32 = 1#1) : w.toNat < 1000 := by
  simp only [IntOp.cmpi, StableHlo.Predicate.ofBool_eq_one_iff, BitVec.sle, BitVec.slt, decide_eq_true_eq,
    BitVec.toInt_eq_toNat_cond, BitVec.toNat_ofNat] at h0 h1
  have := w.isLt
  split at h0 <;> simp at h0 h1 <;> omega

/-- The conjunction of two bits is 1 exactly when both are. -/
theorem both_bits (a b : BitVec 1) : IntOp.andi a b = 1#1 ↔ a = 1#1 ∧ b = 1#1 := by revert a b; decide

/-- The precondition's mask being all ones, every id is below 1000. -/
theorem ids_lt {F : FTy → Type} [FloatOps F] (x0 : FVec F Cert.Pre_ids_in_range.S4x2048x1024 .f32) (ids : IVec Cert.Pre_ids_in_range.S4 32)
    (x2 : FVec F Cert.Pre_ids_in_range.S1000x128 .f32) (x3 : FVec F Cert.Pre_ids_in_range.S1024x128 .f32)
    (x4 x5 x6 : FVec F Cert.Pre_ids_in_range.S1024 .f32)
    (h : Cert.Pre_ids_in_range.fn (F := F) x0 ids x2 x3 x4 x5 x6 = fun _ => 1#1) (j : Cert.Pre_ids_in_range.S4.Idx) :
    (ids j).toNat < 1000 := by
  have e := congrFun h j
  simp only [Cert.Pre_ids_in_range.fn, constantI, broadcastInDim, cmpi, andi, both_bits] at e
  exact word_lt _ e.1 e.2

end Cert.Ids

namespace Cert.Kernel.Ids

open Cert.Kernel Cert.Kernel.Gen Idealize.ShloMosaic Idealize.ShloMosaic.TcCoe

/-- Under the precondition the row each grid point of the kernel fetches lies in the table. -/
theorem ok_of_pre (m : (ℓ : Loc nD τ sig) → Buf (Elt Bits) ℓ) (h : Cert.Pre_Kernel m) : Ok (F := Bits) m := by
  have hw := Cert.Ids.ids_lt _ _ _ _ _ _ _ (h 0)
  intro i
  refine ⟨fun a => ?_, .inl rfl⟩
  match a with
  | ⟨0, _⟩ =>
    have e : tbl m 0 = m (((0 : Dev nD) : Thread nD τ).loc main_arg1) := V_main_arg1 m 0
    show ((tbl m 0 _ : BitVec 32).toNat + 1) * 1 ≤ 1000
    rw [e]
    exact (Nat.mul_one _).le.trans (hw _)
  | ⟨1, _⟩ => show (0 + 1) * 1 ≤ 1; omega
  | ⟨2, _⟩ => show (0 + 1) * 128 ≤ 128; omega

end Cert.Kernel.Ids

namespace Cert.KernelIdeal.Ids

open Cert.KernelIdeal Cert.KernelIdeal.Gen Idealize.ShloMosaic Idealize.ShloMosaic.TcCoe

/-- Under the precondition the row each grid point of the kernel, read over extended reals, fetches lies in the table. -/
theorem ok_of_pre (m : (ℓ : Loc nD τ sig) → Buf (Elt Ideal) ℓ) (h : Cert.Pre_KernelIdeal m) : Ok (F := Ideal) m := by
  have hw := Cert.Ids.ids_lt _ _ _ _ _ _ _ (h 0)
  intro i
  refine ⟨fun a => ?_, .inl rfl⟩
  match a with
  | ⟨0, _⟩ =>
    have e : tbl m 0 = m (((0 : Dev nD) : Thread nD τ).loc main_arg1) := V_main_arg1 m 0
    show ((tbl m 0 _ : BitVec 32).toNat + 1) * 1 ≤ 1000
    rw [e]
    exact (Nat.mul_one _).le.trans (hw _)
  | ⟨1, _⟩ => show (0 + 1) * 1 ≤ 1; omega
  | ⟨2, _⟩ => show (0 + 1) * 128 ≤ 128; omega

end Cert.KernelIdeal.Ids

end
-- ==== Proof.Row.lean ====
/- One row of the result, as a function of extended reals: the projected embedding, the row the layer normalisation is applied to,
   and the normalisation written with a reciprocal square root and with a division by a square root, which are equal. -/
module

public import Idealize.ShloMosaic.PureOps.Ideal
public import Idealize.ShloMosaic.Lib.IdealHost

@[expose] public section

noncomputable section

namespace Cert.Row

open Idealize.ShloMosaic

/-- The number of features of a row, 1024, as the value its single-precision word encodes. -/
abbrev count : EReal := Ideal.ofBits .f32 0x44800000#32
/-- The constant added to the variance, as the value its single-precision word encodes (the single nearest to 1e-5). -/
abbrev eps : EReal := Ideal.ofBits .f32 0x3727C5AC#32

/-- The projection of an embedding `e` onto one feature: its product with that feature's weights `w`, plus the bias `b`. -/
def proj (e w : Fin 128 → EReal) (b : EReal) : EReal := (∑ k, e k * w k) + b

/-- The mean of a row. -/
def mean (x : Fin 1024 → EReal) : EReal := Ideal.div (∑ k, x k) count
/-- A row's feature `l` less the row's mean. -/
def dev (x : Fin 1024 → EReal) (l : Fin 1024) : EReal := x l - mean x
/-- The variance of a row: the mean of the squared deviations. -/
def var (x : Fin 1024 → EReal) : EReal := mean fun k => dev x k * dev x k

/-- Layer normalisation with a reciprocal square root: the deviation times it, scaled by `g` and shifted by `s`. -/
def normMul (x : Fin 1024 → EReal) (l : Fin 1024) (g s : EReal) : EReal := dev x l * Ideal.rsqrt (var x + eps) * g + s
/-- Layer normalisation with a square root: the deviation divided by it, scaled by `g` and shifted by `s`. -/
def normDiv (x : Fin 1024 → EReal) (l : Fin 1024) (g s : EReal) : EReal := Ideal.div (dev x l) (Ideal.sqrt (var x + eps)) * g + s

/-- The word 0x44800000 encodes 1024. -/
theorem count_eq : count = ((1024 : ℝ) : EReal) := by
  simp [Ideal.ofBits, Ideal.ieee, -EReal.coe_mul]
  norm_num

/-- The constant added to the variance is positive. -/
theorem eps_pos : 0 < eps := by
  simp [Ideal.ofBits, Ideal.ieee, -EReal.coe_mul]

/-- The square of an extended real is not negative. -/
theorem sq_nonneg (a : EReal) : 0 ≤ a * a := by
  rcases le_total 0 a with h | h
  · exact mul_nonneg h h
  · have := EReal.mul_nonneg_iff (a := a) (b := a)
    exact this.2 (.inr ⟨h, h⟩)

/-- The mean of a row with no negative feature is not negative. -/
theorem mean_nonneg (x : Fin 1024 → EReal) (h : ∀ k, 0 ≤ x k) : 0 ≤ mean x := by
  unfold mean
  rw [count_eq, Ideal.div_coe (by norm_num)]
  exact mul_nonneg (Finset.sum_nonneg fun k _ => h k) (by exact_mod_cast (by norm_num : (0 : ℝ) ≤ 1 / 1024))

/-- Variance plus the constant is positive. -/
theorem var_eps_pos (x : Fin 1024 → EReal) : 0 < var x + eps :=
  lt_of_lt_of_le eps_pos (le_add_of_nonneg_left (mean_nonneg _ fun k => sq_nonneg (dev x k)))

/-- At a positive `v`, infinity included, multiplying by the reciprocal square root of `v` is dividing by its square root. -/
theorem mul_rsqrt (y v : EReal) (h : 0 < v) : y * Ideal.rsqrt v = Ideal.div y (Ideal.sqrt v) := by
  induction v using EReal.rec with
  | bot => exact absurd h (by simp)
  | top => simp [Ideal.div]
  | coe r =>
    have hr : 0 < r := by exact_mod_cast h
    have hs : Real.sqrt r ≠ 0 := (Real.sqrt_pos.2 hr).ne'
    rw [Ideal.rsqrt_coe, Ideal.sqrt_coe, if_neg hr.not_gt, if_neg hr.not_gt, if_neg hr.ne', Ideal.div_coe hs, one_div]

/-- The two ways of normalising a row agree, whatever its features are. -/
theorem normMul_eq_normDiv (x : Fin 1024 → EReal) (l : Fin 1024) (g s : EReal) : normMul x l g s = normDiv x l g s := by
  unfold normMul normDiv
  rw [mul_rsqrt _ _ (var_eps_pos x)]

end Cert.Row

end
-- ==== Proof.Block.lean ====
/- What the kernel's body stores at one grid point, read at an index: each row of the hidden block plus the projected embedding,
   normalised. -/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe

/-- The rows the block normalises: the hidden block, to each row of which the projected embedding is added. -/
def rows (e : FVec Ideal S1x1x128 .f32) (w : FVec Ideal S128x1024 .f32) (b : FVec Ideal S1x1024 .f32) (x : FVec Ideal S1x2048x1024 .f32) :
    FVec Ideal S2048x1024 .f32 :=
  addf (shapeCast S2048x1024 x shapeCasts_S1x2048x1024_S2048x1024)
    (broadcastTo S2048x1024
      (addf (matmul dot_S1x128_S128x1024_S1x1024_1_0_0_1_n_n none (shapeCast S1x128 e shapeCasts_S1x1x128_S1x128)
          (shapeCast S128x1024 w shapeCasts_S128x1024_S128x1024) (constant S1x1024 .f32 0x00000000#32))
        (shapeCast S1x1024 b shapeCasts_S1x1024_S1x1024))
      broadcasts_S1x1024_S2048x1024)

/-- The means of a block's rows, as a column. -/
def means (y : FVec Ideal S2048x1024 .f32) : FVec Ideal S2048x1 .f32 :=
  divf (shapeCast S2048x1 (multiReduction .add [1] S2048 y 0x00000000#32 reduces_S2048x1024_S2048 (.inl rfl) rfl) shapeCasts_S2048_S2048x1)
    (broadcast S2048x1 (Scalar.ofBits .f32 0x44800000#32))

/-- A block less its rows' means. -/
def devs (y : FVec Ideal S2048x1024 .f32) : FVec Ideal S2048x1024 .f32 :=
  subf y (broadcastTo S2048x1024 (means y) broadcasts_S2048x1_S2048x1024)

/-- A column of variances turned into the factors the deviations are multiplied by. -/
def factors (v : FVec Ideal S2048x1 .f32) : FVec Ideal S2048x1024 .f32 :=
  broadcastTo S2048x1024 (rsqrt (addf v (broadcast S2048x1 (Scalar.ofBits .f32 0x3727C5AC#32)))) broadcasts_S2048x1_S2048x1024

/-- A vector over the features, repeated for each row. -/
def repeated (g : FVec Ideal S1x1024 .f32) : FVec Ideal S2048x1024 .f32 :=
  broadcastTo S2048x1024 (shapeCast S1x1024 g shapeCasts_S1x1024_S1x1024) broadcasts_S1x1024_S2048x1024

/-- The body's stored value is these steps, one after the other. -/
theorem stored_eq (e : FVec Ideal S1x1x128 .f32) (w : FVec Ideal S128x1024 .f32) (b : FVec Ideal S1x1024 .f32)
    (x : FVec Ideal S1x2048x1024 .f32) (g s : FVec Ideal S1x1024 .f32) :
    k0_pay1 (k0_pay2 e w b x g s)
      = shapeCast S1x2048x1024 (addf (mulf (mulf (devs (rows e w b x)) (factors (means (mulf (devs (rows e w b x)) (devs (rows e w b x))))))
          (repeated g)) (repeated s)) shapeCasts_S2048x1024_S1x2048x1024 := rfl

/-- Row `r`, feature `l` of the rows the block normalises. -/
theorem rows_apply (e : FVec Ideal S1x1x128 .f32) (w : FVec Ideal S128x1024 .f32) (b : FVec Ideal S1x1024 .f32)
    (x : FVec Ideal S1x2048x1024 .f32) (r : Fin 2048) (l : Fin 1024) :
    rows e w b x (ix2 r l) = x (ix3 0 r l) + Row.proj (fun k => e (ix3 0 0 k)) (fun k => w (ix2 k l)) (b (ix2 0 l)) := by
  unfold rows Row.proj
  pointwise [dot_S1x128_S128x1024_S1x1024_1_0_0_1_n_n]

/-- The mean of row `r`. -/
theorem means_apply (y : FVec Ideal S2048x1024 .f32) (r : Fin 2048) (z : Fin 1) :
    means y (ix2 r z) = Row.mean fun k => y (ix2 r k) := by
  unfold means Row.mean
  pointwise

/-- The deviation of feature `l` from the mean of row `r`. -/
theorem devs_apply (y : FVec Ideal S2048x1024 .f32) (r : Fin 2048) (l : Fin 1024) :
    devs y (ix2 r l) = Row.dev (fun k => y (ix2 r k)) l := by
  unfold devs Row.dev
  pointwise [means_apply]

/-- The factor of row `r`. -/
theorem factors_apply (v : FVec Ideal S2048x1 .f32) (r : Fin 2048) (l : Fin 1024) :
    factors v (ix2 r l) = Ideal.rsqrt (v (ix2 r 0) + Row.eps) := by
  unfold factors
  pointwise

/-- A repeated vector at feature `l` of any row. -/
theorem repeated_apply (g : FVec Ideal S1x1024 .f32) (r : Fin 2048) (l : Fin 1024) : repeated g (ix2 r l) = g (ix2 0 l) := by
  unfold repeated
  pointwise

/-- What the body stores at row `r`, feature `l` of its block. -/
theorem stored_apply (e : FVec Ideal S1x1x128 .f32) (w : FVec Ideal S128x1024 .f32) (b : FVec Ideal S1x1024 .f32)
    (x : FVec Ideal S1x2048x1024 .f32) (g s : FVec Ideal S1x1024 .f32) (z : Fin 1) (r : Fin 2048) (l : Fin 1024) :
    k0_pay1 (F := Ideal) (k0_pay2 e w b x g s) (ix3 z r l)
      = Row.normMul (fun k => x (ix3 0 r k) + Row.proj (fun i => e (ix3 0 0 i)) (fun i => w (ix2 i k)) (b (ix2 0 k))) l
          (g (ix2 0 l)) (s (ix2 0 l)) := by
  rw [stored_eq]
  unfold Row.normMul Row.var
  pointwise [devs_apply, factors_apply, means_apply, repeated_apply, rows_apply]

end Cert.KernelIdeal.Block

end
-- ==== Proof.Blocks.lean ====
/- What each grid point of the kernel finds in its input blocks, as entries of the arguments, and what its body leaves in the output block. -/
module

public import proofs.«01_k».proof.Proof.Gen.KernelIdeal.Frame
public import proofs.«01_k».proof.Proof.Gen.KernelIdeal.Points
public import proofs.«01_k».proof.Proof.Block
public import Idealize.ShloMosaic.Lib.Pipeline.Value
public import Idealize.ShloMosaic.Lib.Pointwise
public import Idealize.ShloMosaic.Lib.StableHlo.Run

@[expose] public section

set_option maxRecDepth 16384

noncomputable section

namespace Cert.KernelIdeal.Blocks

open Cert.KernelIdeal Cert.KernelIdeal.Gen Idealize.ShloMosaic Idealize.ShloMosaic.TcCoe

variable (m : (ℓ : Loc nD τ sig) → Buf (Elt Ideal) ℓ)

/-! ## The arguments of device `c` -/

/-- The hidden states. -/
abbrev hidden (c : Dev nD) : FVec Ideal S4x2048x1024 .f32 := m ((c : Thread nD τ).loc main_arg0)
/-- The ids, one for each batch entry. -/
abbrev ids (c : Dev nD) : IVec S4 32 := m ((c : Thread nD τ).loc main_arg1)
/-- The embedding table. -/
abbrev table (c : Dev nD) : FVec Ideal S1000x128 .f32 := m ((c : Thread nD τ).loc main_arg2)
/-- The projection's weight. -/
abbrev weight (c : Dev nD) : FVec Ideal S1024x128 .f32 := m ((c : Thread nD τ).loc main_arg3)
/-- The projection's bias. -/
abbrev bias (c : Dev nD) : FVec Ideal S1024 .f32 := m ((c : Thread nD τ).loc main_arg4)
/-- The normalisation's scale. -/
abbrev scale (c : Dev nD) : FVec Ideal S1024 .f32 := m ((c : Thread nD τ).loc main_arg5)
/-- The normalisation's shift. -/
abbrev shift (c : Dev nD) : FVec Ideal S1024 .f32 := m ((c : Thread nD τ).loc main_arg6)

/-! ## The arrays the operations before the kernel make of them -/

/-- The embedding table with an axis of length one put in. -/
theorem entry_table (c : Dev nD) : V m c main_call0_v0 = shapeCast S1000x1x128 (table m c) shapeCasts_S1000x128_S1000x1x128 := by
  unfold V; after_results; rfl

/-- The projection's weight transposed. -/
theorem entry_weight (c : Dev nD) : V m c main_call0_v1 = transpose S128x1024 [1, 0] (weight m c) transposes_S1024x128_S128x1024_1_0 := by
  unfold V; after_results; rfl

/-- The projection's bias as a row. -/
theorem entry_bias (c : Dev nD) : V m c main_call0_v2 = shapeCast S1x1024 (bias m c) shapeCasts_S1024_S1x1024 := by
  unfold V; after_results; rfl

/-- The normalisation's scale as a row. -/
theorem entry_scale (c : Dev nD) : V m c main_call0_v3 = shapeCast S1x1024 (scale m c) shapeCasts_S1024_S1x1024 := by
  unfold V; after_results; rfl

/-- The normalisation's shift as a row. -/
theorem entry_shift (c : Dev nD) : V m c main_call0_v4 = shapeCast S1x1024 (shift m c) shapeCasts_S1024_S1x1024 := by
  unfold V; after_results; rfl

/-! ## The blocks at point `t` -/

variable (hO : Ok m) (c : Dev nD) (t : Fin (cfgM m hO).N)

/-- The batch entry that point `t` works on. -/
abbrev batch : Fin 4 := grid0.coords t 0

/-- The table of ids that the index maps read is the argument's ids. -/
theorem tbl_eq : tbl m 0 = ids m c := by
  obtain rfl : c = 0 := Subsingleton.elim _ _
  exact V_main_arg1 m 0

/-- The row of the table that point `t` fetches is the one its batch entry's id names. -/
theorem index_table : cc0_transform_0 k0_off1_inb numel1_S1 (tbl m) (grid0.coords t) 0 = (ids m c (ix1 (batch m hO t))).toNat := by
  show (tbl m 0 _ : BitVec 32).toNat = _
  rw [tbl_eq m c]
  congr 2
  funext a
  match a with
  | ⟨0, _⟩ =>
    apply Fin.ext
    have := (batch m hO t).isLt
    show (BitVec.ofNat 32 (grid0.coords t 0).val).toNat + 1 * 0 = (grid0.coords t 0).val
    simp
    omega

/-- Entry `k` of the row of the table fetched. -/
theorem block_table (h : ∀ j, (ids m c j).toNat < 1000) (k : Fin 128) :
    (iblk m hO c 0 t : FVec Ideal S1x1x128 .f32) (ix3 0 0 k) = table m c (ix2 ⟨(ids m c (ix1 (batch m hO t))).toNat, h _⟩ k) := by
  have e : (iblk m hO c 0 t : FVec Ideal S1x1x128 .f32) (ix3 0 0 k)
      = V m c main_call0_v0 (ix3 ⟨(ids m c (ix1 (batch m hO t))).toNat, h _⟩ 0 k) := by
    show V m c main_call0_v0 _ = _
    congr 1
    funext a
    apply Fin.ext
    match a with
    | ⟨0, _⟩ =>
      show cc0_transform_0 k0_off1_inb numel1_S1 (tbl m) (grid0.coords t) 0 * 1 + 1 * 0 = (ids m c (ix1 (batch m hO t))).toNat
      rw [index_table m hO c t]; omega
    | ⟨1, _⟩ => rfl
    | ⟨2, _⟩ => show 0 * 128 + 1 * k.val = k.val; omega
  rw [e, entry_table]
  pointwise

/-- The block of the transposed weight is the whole of it. -/
theorem block_weight (i : Fin 128) (k : Fin 1024) : (iblk m hO c 1 t : FVec Ideal S128x1024 .f32) (ix2 i k) = weight m c (ix2 k i) := by
  have e : (iblk m hO c 1 t : FVec Ideal S128x1024 .f32) (ix2 i k) = V m c main_call0_v1 (ix2 i k) := by
    show V m c main_call0_v1 _ = _
    congr 1
    funext a
    apply Fin.ext
    match a with
    | ⟨0, _⟩ => show 0 * 128 + 1 * i.val = i.val; omega
    | ⟨1, _⟩ => show 0 * 1024 + 1 * k.val = k.val; omega
  rw [e, entry_weight]
  pointwise

/-- The block of the bias is the whole of it. -/
theorem block_bias (k : Fin 1024) : (iblk m hO c 2 t : FVec Ideal S1x1024 .f32) (ix2 0 k) = bias m c (ix1 k) := by
  have e : (iblk m hO c 2 t : FVec Ideal S1x1024 .f32) (ix2 0 k) = V m c main_call0_v2 (ix2 0 k) := by
    show V m c main_call0_v2 _ = _
    congr 1
    funext a
    apply Fin.ext
    match a with
    | ⟨0, _⟩ => rfl
    | ⟨1, _⟩ => show 0 * 1024 + 1 * k.val = k.val; omega
  rw [e, entry_bias]
  pointwise

/-- The block of the scale is the whole of it. -/
theorem block_scale (k : Fin 1024) : (iblk m hO c 3 t : FVec Ideal S1x1024 .f32) (ix2 0 k) = scale m c (ix1 k) := by
  have e : (iblk m hO c 3 t : FVec Ideal S1x1024 .f32) (ix2 0 k) = V m c main_call0_v3 (ix2 0 k) := by
    show V m c main_call0_v3 _ = _
    congr 1
    funext a
    apply Fin.ext
    match a with
    | ⟨0, _⟩ => rfl
    | ⟨1, _⟩ => show 0 * 1024 + 1 * k.val = k.val; omega
  rw [e, entry_scale]
  pointwise

/-- The block of the shift is the whole of it. -/
theorem block_shift (k : Fin 1024) : (iblk m hO c 4 t : FVec Ideal S1x1024 .f32) (ix2 0 k) = shift m c (ix1 k) := by
  have e : (iblk m hO c 4 t : FVec Ideal S1x1024 .f32) (ix2 0 k) = V m c main_call0_v4 (ix2 0 k) := by
    show V m c main_call0_v4 _ = _
    congr 1
    funext a
    apply Fin.ext
    match a with
    | ⟨0, _⟩ => rfl
    | ⟨1, _⟩ => show 0 * 1024 + 1 * k.val = k.val; omega
  rw [e, entry_shift]
  pointwise

/-- The block of the hidden states is the batch entry's. -/
theorem block_hidden (r : Fin 2048) (k : Fin 1024) :
    (iblk m hO c 5 t : FVec Ideal S1x2048x1024 .f32) (ix3 0 r k) = hidden m c (ix3 (batch m hO t) r k) := by
  have e : (iblk m hO c 5 t : FVec Ideal S1x2048x1024 .f32) (ix3 0 r k) = V m c main_arg0 (ix3 (batch m hO t) r k) := by
    show V m c main_arg0 _ = _
    congr 1
    funext a
    apply Fin.ext
    match a with
    | ⟨0, _⟩ =>
      have h0 : (grid0.coords t 0).val < 4 := (grid0.coords t 0).isLt
      show (BitVec.ofNat 32 (grid0.coords t 0).val).toNat * 1 + 1 * 0 = (grid0.coords t 0).val
      rw [BitVec.toNat_ofNat]; omega
    | ⟨1, _⟩ =>
      have h1 : (grid0.coords t 1).val < 1 := (grid0.coords t 1).isLt
      show (BitVec.ofNat 32 (grid0.coords t 1).val).toNat * 2048 + 1 * r.val = r.val
      rw [BitVec.toNat_ofNat]; omega
    | ⟨2, _⟩ => show 0 * 1024 + 1 * k.val = k.val; omega
  rw [e, V_main_arg0]

/-! ## What the body leaves -/

/-- Three zeros, the offsets of a load or store of the whole of a block. -/
theorem hz3 : (![0, 0, 0] : Fin 3 → Nat) = fun _ => 0 := funext fun a => by fin_cases a <;> rfl
/-- Two zeros likewise. -/
theorem hz2 : (![0, 0] : Fin 2 → Nat) = fun _ => 0 := funext fun a => by fin_cases a <;> rfl

/-- A load of the whole of a buffer reads what the buffer holds. -/
theorem load_whole {sp : Space} {S : Shape} {e : EltTy} {a : Memref sig .tc sp S e} {off : Fin S.rank → Nat} (hz : off = fun _ => 0)
    (inb : ∀ n, off n + S.size n ≤ S.size n) (w : a.IsWhole) (x : S.Idx → Elt Ideal e) :
    a.view.readAt (Elt Ideal) (Rect.unit off S.size inb).toLoadRect (w.unread x) = x :=
  (View.readAt_eq_ld _ _ _).trans ((congrArg (View.ld · _) (w.read_unread x)).trans (View.ld_unit_zero hz inb x))

/-- The body's one store fills the output block with the payload of what the input blocks hold. -/
theorem stored (i : grid0.Coords) (a0 : Memref sig .tc .vmem S1x1x128 .f32) (w0 : a0.IsWhole) (a1 : Memref sig .tc .vmem S128x1024 .f32)
    (w1 : a1.IsWhole) (a2 : Memref sig .tc .vmem S1x1024 .f32) (w2 : a2.IsWhole) (a3 : Memref sig .tc .vmem S1x1024 .f32) (w3 : a3.IsWhole)
    (a4 : Memref sig .tc .vmem S1x1024 .f32) (w4 : a4.IsWhole) (a5 : Memref sig .tc .vmem S1x2048x1024 .f32) (w5 : a5.IsWhole)
    (a6 : Memref sig .tc .vmem S1x2048x1024 .f32) (w6 : a6.IsWhole) (x0 : Vec Ideal S1x1x128 .f32) (x1 : Vec Ideal S128x1024 .f32)
    (x2 x3 x4 : Vec Ideal S1x1024 .f32) (x5 : Vec Ideal S1x2048x1024 .f32) (y : TbBuf0 (F := Ideal) c tbM0_0) :
    out0_A_6 c i a0 w0 a1 w1 a2 w2 a3 w3 a4 w4 a5 w5 a6 w6 x0 x1 x2 x3 x4 x5 y = k0_pay1 (F := Ideal) (k0_pay2 x0 x1 x2 x5 x3 x4) := by
  unfold out0_A_6
  rw [View.read_writes_eq_canon _ _ _ (cover0_A_6 c _ _ _ _ _ _ _ _ _ _ _ _ _ _ _ _ _ _ _ _ _ _)]
  unfold kernelRun0_A
  refine (View.canon_unit_zero (S := S1x2048x1024) hz3 _ _).trans ?_
  unfold kernelRun0_A.sl.r
  rw [load_whole (S := S1x1x128) hz3 _ w0 x0, load_whole (S := S128x1024) hz2 _ w1 x1, load_whole (S := S1x1024) hz2 _ w2 x2,
    load_whole (S := S1x1024) hz2 _ w3 x3, load_whole (S := S1x1024) hz2 _ w4 x4, load_whole (S := S1x2048x1024) hz3 _ w5 x5]

/-- The kernel's result, index by index: the batch entry's row of the hidden states plus the projection of the row of the table that the
    entry's id names, normalised. -/
def result (x : FVec Ideal S4x2048x1024 .f32) (ids : IVec S4 32) (table : FVec Ideal S1000x128 .f32) (w : FVec Ideal S1024x128 .f32)
    (b g s : FVec Ideal S1024 .f32) (h : ∀ j, (ids j).toNat < 1000) : FVec Ideal S4x2048x1024 .f32 := fun j =>
  Row.normMul
    (fun k => x (ix3 (j 0 : Fin 4) (j 1 : Fin 2048) k)
      + Row.proj (fun n => table (ix2 ⟨(ids (ix1 (j 0 : Fin 4))).toNat, h _⟩ n)) (fun n => w (ix2 k n)) (b (ix1 k)))
    (j 2 : Fin 1024) (g (ix1 (j 2 : Fin 1024))) (s (ix1 (j 2 : Fin 1024)))

/-- What the body leaves at row `r`, feature `l` of the output block at point `t` is the result there. -/
theorem left_apply (h : ∀ j, (ids m c j).toNat < 1000) (z : Fin 1) (r : Fin 2048) (l : Fin 1024) :
    outsAt0 m hO c t (ix3 z r l)
      = result (hidden m c) (ids m c) (table m c) (weight m c) (bias m c) (scale m c) (shift m c) h (ix3 (batch m hO t) r l) := by
  unfold outsAt0
  refine (congrFun (stored c _ _ _ _ _ _ _ _ _ _ _ _ _ _ _ _ _ _ _ _ _ _) (ix3 z r l)).trans ?_
  refine (Block.stored_apply _ _ _ _ _ _ z r l).trans ?_
  unfold result
  congr 1
  · funext k
    exact congrArg₂ (· + ·) (block_hidden m hO c t r k)
      (congr (congr (congrArg Row.proj (funext (block_table m hO c t h))) (funext fun n => block_weight m hO c t n k)) (block_bias m hO c t k))
  · exact block_scale m hO c t l
  · exact block_shift m hO c t l

end Cert.KernelIdeal.Blocks

end
-- ==== Proof.Array.lean ====
/- The array that the kernel's run leaves: the grid points' output blocks tile it, so it is the result at every index. -/
module

public import proofs.«01_k».proof.Proof.Blocks
public import Idealize.ShloMosaic.Lib.Claim

@[expose] public section

set_option maxRecDepth 16384

noncomputable section

namespace Cert.KernelIdeal.Array

open Cert.KernelIdeal Cert.KernelIdeal.Gen Cert.KernelIdeal.Blocks Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result of the arguments of device `c`. -/
abbrev out (h : ∀ (c : Dev nD) j, (ids m c j).toNat < 1000) (c : Dev nD) : Buf (Elt Ideal) ((c : Thread nD τ).loc main_v0) :=
  result (hidden m c) (ids m c) (table m c) (weight m c) (bias m c) (scale m c) (shift m c) (h c)

variable (hO : Ok m) (h : ∀ (c : Dev nD) j, (ids m c j).toNat < 1000) (c : Dev nD)

/-- Where index `y` of point `t`'s output block lies in the array. -/
theorem place (t : Fin (cfgM m hO).N) (z : Fin 1) (r : Fin 2048) (l : Fin 1024) :
    (((cfgM m hO).win 6).rect t).emb (ix3 z r l) = (ix3 (batch m hO t) r l : S4x2048x1024.Idx) := by
  funext a
  apply Fin.ext
  match a with
  | ⟨0, _⟩ =>
    have h0 : (grid0.coords t 0).val < 4 := (grid0.coords t 0).isLt
    show (BitVec.ofNat 32 (grid0.coords t 0).val).toNat * 1 + 1 * z.val = (grid0.coords t 0).val
    rw [BitVec.toNat_ofNat]; omega
  | ⟨1, _⟩ =>
    have h1 : (grid0.coords t 1).val < 1 := (grid0.coords t 1).isLt
    show (BitVec.ofNat 32 (grid0.coords t 1).val).toNat * 2048 + 1 * r.val = r.val
    rw [BitVec.toNat_ofNat]; omega
  | ⟨2, _⟩ => show 0 * 1024 + 1 * l.val = l.val; omega

/-- What point `t` writes back is its block of the result. -/
theorem flushed_eq (t : Fin (cfgM m hO).N) :
    (dats m hO 0 c).flushed 6 t = (((cfgM m hO).win 6).blk t).view.read (Elt Ideal) (out m h c) := by
  show ((cfgM m hO).win 6).cut (grid0.coords t) ((dats m hO 0 c).after 6 t) = _
  rw [after0_6]
  refine funext fun (y : S1x2048x1024.Idx) => ?_
  obtain ⟨z, r, l, rfl⟩ : ∃ (z : Fin 1) (r : Fin 2048) (l : Fin 1024), y = (ix3 z r l : S1x2048x1024.Idx) :=
    ⟨y 0, y 1, y 2, funext fun a => match a with | ⟨0, _⟩ => rfl | ⟨1, _⟩ => rfl | ⟨2, _⟩ => rfl⟩
  show outsAt0 m hO c t (ix3 z r l) = out m h c ((((cfgM m hO).win 6).rect t).emb (ix3 z r l))
  rw [place, left_apply m hO c t (h c)]

/-- Every index of the array lies in the block that some point writes back. -/
theorem cover (i : S4x2048x1024.Idx) :
    ∃ t : Fin (cfgM m hO).N, ((cfgM m hO).win 6).flush t = true ∧ i ∈ (((cfgM m hO).win 6).blk t).view.set := by
  have ht : ∀ b : Fin 4, ∃ t : Fin grid0.N, (grid0.coords t 0).val = b.val := by decide +kernel
  obtain ⟨t, e⟩ := ht (i 0)
  refine ⟨t, flush0_6 (adm m hO) t, ?_⟩
  have p := place m hO t 0 (i 1) (i 2)
  have q : (ix3 (batch m hO t) (i 1 : Fin 2048) (i 2 : Fin 1024) : S4x2048x1024.Idx) = i :=
    funext fun a => match a with | ⟨0, _⟩ => Fin.ext e | ⟨1, _⟩ => rfl | ⟨2, _⟩ => rfl
  rw [q] at p
  rw [← p]
  exact (((cfgM m hO).win 6).blk t).view.emb_mem_set _

/-- So the array ends holding the result. -/
theorem final : (dats m hO 0 c).arrAt 6 (cfgM m hO).N = out m h c :=
  (dats m hO 0 c).arrAt_eq_of_cover 6 (out m h c) (fun t _ => flushed_eq m hO h c t) (cover m hO)

include hO in
/-- Every run leaves the result in the result array and the arguments as they were. -/
theorem run : θ_run defs (onTc (τ := τ) (main (F := Ideal))) ⟨m, fun _ => 0, ρ⟩ fun r => ∀ c : Dev nD,
      r.2.mem ((c.tc : Thread nD τ).loc main_v0) = out m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ hr c => ⟨((hr.1 c).1 6).trans (final m hO h c), hr.2 c⟩)
    (θ_run_and (run_main m ρ hO) (unchanged m ρ hO))

end Cert.KernelIdeal.Array

end
-- ==== Proof.Take.lean ====
/- The reference's embedding lookup: where the ids are below 1000, the rows of the table that they name. -/
module

public import proofs.«01_k».proof.Proof.Gen.ReferenceIdeal
public import Idealize.ShloMosaic.Lib.Pointwise
public import Idealize.ShloMosaic.Lib.ReduceAll
public import Idealize.ShloMosaic.Lib.Routing.Ops
public import Idealize.ShloMosaic.Lib.StableHlo.Predicate

@[expose] public section

set_option maxRecDepth 16384

noncomputable section

namespace Cert.ReferenceIdeal.Take

open Cert.ReferenceIdeal Cert.ReferenceIdeal.Gen Idealize.ShloMosaic Idealize.ShloMosaic.TcCoe

/-- The ids, 1000 added to a negative one, as a column. -/
def wrapped (ids : IVec S4 32) : IVec S4x1 32 :=
  broadcastInDim S4x1 ![0] bcast_S4_S4x1_0
    (select (cmpi .slt ids (broadcastInDim S4 ![] bcast_S_S4 (constantI S_ 32 0#32)))
      (addi ids (broadcastInDim S4 ![] bcast_S_S4 (constantI S_ 32 1000#32))) ids)

/-- For each id, the bit that says that it names a row of the table. -/
def inTable (ids : IVec S4 32) : IVec S4 1 :=
  Host.reduce IntOp.andi
    (andi (cmpi .sge (wrapped ids) (broadcastInDim S4x1 ![] bcast_S_S4x1 (constantI S_ 32 0#32)))
      (cmpi .sle (wrapped ids)
        (broadcastInDim S4x1 ![0, 1] bcast_S1x1_S4x1_0_1 (broadcastInDim S1x1 ![1] bcast_S1_S1x1_1 (constantI S1 32 999#32)))))
    (constantI S_ 1 1#1) reducesTo_S4x1_S4_d1 h_S_

/-- The rows looked up, a row whose id names none filled with a constant. -/
def taken (table : FVec Ideal S1000x128 .f32) (ids : IVec S4 32) : FVec Ideal S4x128 .f32 :=
  select (broadcastInDim S4x128 ![0] bcast_S4_S4x128_0 (inTable ids))
    (Host.gather gather_S1000x128_S4x1_S4x128_1_0_n_n_0_1_1128 table (wrapped ids))
    (broadcastInDim S4x128 ![] bcast_S_S4x128 (constant S_ .f32 0x7FC00000#32))

/-- An id below 1000 is left as it is. -/
theorem wrapped_apply (ids : IVec S4 32) (h : ∀ j, (ids j).toNat < 1000) (r : Fin 4) (z : Fin 1) :
    wrapped ids (ix2 r z) = ids (ix1 r) := by
  have hn : ¬ IntOp.cmpi .slt (ids (ix1 r)) 0#32 = 1#1 := by
    rw [StableHlo.Predicate.slt_iff_toNat (by have := h (ix1 r); omega) (by decide)]
    exact Nat.not_lt_zero _
  unfold wrapped
  pointwise
  exact if_neg hn

/-- Ids below 1000 name rows of the table. -/
theorem inTable_apply (ids : IVec S4 32) (h : ∀ j, (ids j).toNat < 1000) (r : Fin 4) : inTable ids (ix1 r) = 1#1 := by
  unfold inTable
  refine Host.reduce_andi_one _ _ _ _ _ rfl fun i => ?_
  idx_vars i
  have hl := h (ix1 i0)
  have h0 : IntOp.cmpi .sge (ids (ix1 i0)) 0#32 = 1#1 :=
    (StableHlo.Predicate.sge_iff_toNat (by omega) (by decide)).2 (Nat.zero_le _)
  have h1 : IntOp.cmpi .sle (ids (ix1 i0)) 999#32 = 1#1 :=
    (StableHlo.Predicate.sle_iff_toNat (by omega) (by decide)).2 (by show _ ≤ 999; omega)
  pointwise [wrapped_apply ids h, h0, h1]
  try rfl

/-- Row `r` of the lookup is the row of the table that id `r` names. -/
theorem taken_apply (table : FVec Ideal S1000x128 .f32) (ids : IVec S4 32) (h : ∀ j, (ids j).toNat < 1000) (r : Fin 4) (k : Fin 128) :
    taken table ids (ix2 r k) = table (ix2 ⟨(ids (ix1 r)).toNat, h _⟩ k) := by
  have hg : Host.gather gather_S1000x128_S4x1_S4x128_1_0_n_n_0_1_1128 table (wrapped ids) (ix2 r k)
      = table (ix2 ⟨(ids (ix1 r)).toNat, h _⟩ k) := by
    refine Routing.gather_row _ rfl rfl rfl rfl rfl table (wrapped ids) r k ⟨(ids (ix1 r)).toNat, h _⟩ ?_ (by norm_num)
    exact (wrapped_apply ids h r 0).trans (by simp)
  unfold taken
  pointwise [inTable_apply ids h]
  exact hg

end Cert.ReferenceIdeal.Take

end
-- ==== Proof.RefRow.lean ====
/- What the reference computes, read at an index: the row of the hidden states plus the projected embedding, normalised. -/
module

public import proofs.«01_k».proof.Proof.Gen.ReferenceIdeal.Run
public import proofs.«01_k».proof.Proof.Take
public import proofs.«01_k».proof.Proof.Row
public import Idealize.ShloMosaic.Lib.Pointwise

@[expose] public section

set_option maxRecDepth 16384

noncomputable section

namespace Cert.ReferenceIdeal.RefRow

open Cert.ReferenceIdeal Cert.ReferenceIdeal.Gen Idealize.ShloMosaic Idealize.ShloMosaic.TcCoe

/-- The rows the reference normalises: the hidden states, to each row of which its batch entry's projected embedding `e` is added. -/
def rows (x : FVec Ideal S4x2048x1024 .f32) (e : FVec Ideal S4x128 .f32) (w : FVec Ideal S1024x128 .f32) (b : FVec Ideal S1024 .f32) :
    FVec Ideal S4x2048x1024 .f32 :=
  addf x (broadcastInDim S4x2048x1024 ![0, 1, 2] bcast_S4x1x1024_S4x2048x1024_0_1_2
    (broadcastInDim S4x1x1024 ![0, 2] bcast_S4x1024_S4x1x1024_0_2
      (addf (Host.dotGeneral dot_S4x128_S128x1024_S4x1024_1_0_0_1_n_n none e
          (transpose S128x1024 [1, 0] w transposes_S1024x128_S128x1024_1_0))
        (broadcastInDim S4x1024 ![0, 1] bcast_S1x1024_S4x1024_0_1 (broadcastInDim S1x1024 ![1] bcast_S1024_S1x1024_1 b)))))

/-- The means of the rows of an array. -/
def means (y : FVec Ideal S4x2048x1024 .f32) : FVec Ideal S4x2048x1 .f32 :=
  Host.divf (broadcastInDim S4x2048x1 ![0, 1] bcast_S4x2048_S4x2048x1_0_1
      (Host.reduceAdd y (constant S_ .f32 0x00000000#32) reducesTo_S4x2048x1024_S4x2048_d2 h_S_))
    (broadcastInDim S4x2048x1 ![] bcast_S_S4x2048x1 (constant S_ .f32 0x44800000#32))

/-- An array less its rows' means. -/
def devs (y : FVec Ideal S4x2048x1024 .f32) : FVec Ideal S4x2048x1024 .f32 :=
  subf y (broadcastInDim S4x2048x1024 ![0, 1, 2] bcast_S4x2048x1_S4x2048x1024_0_1_2 (means y))

/-- Variances turned into the numbers the deviations are divided by. -/
def divisors (v : FVec Ideal S4x2048x1 .f32) : FVec Ideal S4x2048x1024 .f32 :=
  broadcastInDim S4x2048x1024 ![0, 1, 2] bcast_S4x2048x1_S4x2048x1024_0_1_2
    (Host.sqrt (addf v (broadcastInDim S4x2048x1 ![] bcast_S_S4x2048x1 (constant S_ .f32 0x3727C5AC#32))))

/-- A vector over the features, repeated for each row. -/
def repeated (g : FVec Ideal S1024 .f32) : FVec Ideal S4x2048x1024 .f32 :=
  broadcastInDim S4x2048x1024 ![0, 1, 2] bcast_S1x1x1024_S4x2048x1024_0_1_2 (broadcastInDim S1x1x1024 ![2] bcast_S1024_S1x1x1024_2 g)

/-- The steps one after the other, as a function of the arguments. -/
def result (x : FVec Ideal S4x2048x1024 .f32) (ids : IVec S4 32) (table : FVec Ideal S1000x128 .f32) (w : FVec Ideal S1024x128 .f32)
    (b g s : FVec Ideal S1024 .f32) : FVec Ideal S4x2048x1024 .f32 :=
  let y := rows x (Take.taken table ids) w b
  addf (mulf (Host.divf (devs y) (divisors (means (mulf (devs y) (devs y))))) (repeated g)) (repeated s)

/-- What the reference's run leaves in its result is `result` of its arguments. -/
theorem result_eq (m : (ℓ : Loc nD τ sig) → Buf (Elt Ideal) ℓ) (c : Dev nD) :
    Value.res_main_v32 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := rfl

/-- Batch entry `i`, row `r`, feature `l` of the rows the reference normalises. -/
theorem rows_apply (x : FVec Ideal S4x2048x1024 .f32) (e : FVec Ideal S4x128 .f32) (w : FVec Ideal S1024x128 .f32) (b : FVec Ideal S1024 .f32)
    (i : Fin 4) (r : Fin 2048) (l : Fin 1024) :
    rows x e w b (ix3 i r l) = x (ix3 i r l) + Row.proj (fun k => e (ix2 i k)) (fun k => w (ix2 l k)) (b (ix1 l)) := by
  unfold rows Row.proj
  pointwise [dot_S4x128_S128x1024_S4x1024_1_0_0_1_n_n]

/-- The mean of a row. -/
theorem means_apply (y : FVec Ideal S4x2048x1024 .f32) (i : Fin 4) (r : Fin 2048) (z : Fin 1) :
    means y (ix3 i r z) = Row.mean fun k => y (ix3 i r k) := by
  unfold means Row.mean
  pointwise

/-- The deviation of feature `l` from the mean of its row. -/
theorem devs_apply (y : FVec Ideal S4x2048x1024 .f32) (i : Fin 4) (r : Fin 2048) (l : Fin 1024) :
    devs y (ix3 i r l) = Row.dev (fun k => y (ix3 i r k)) l := by
  unfold devs Row.dev
  pointwise [means_apply]

/-- The divisor of a row. -/
theorem divisors_apply (v : FVec Ideal S4x2048x1 .f32) (i : Fin 4) (r : Fin 2048) (l : Fin 1024) :
    divisors v (ix3 i r l) = Ideal.sqrt (v (ix3 i r 0) + Row.eps) := by
  unfold divisors
  pointwise

/-- A repeated vector at feature `l` of any row. -/
theorem repeated_apply (g : FVec Ideal S1024 .f32) (i : Fin 4) (r : Fin 2048) (l : Fin 1024) : repeated g (ix3 i r l) = g (ix1 l) := by
  unfold repeated
  pointwise

/-- The normalised rows at an index. -/
theorem normalised_apply (y : FVec Ideal S4x2048x1024 .f32) (g s : FVec Ideal S1024 .f32) (i : Fin 4) (r : Fin 2048) (l : Fin 1024) :
    addf (F := Ideal) (mulf (Host.divf (devs y) (divisors (means (mulf (devs y) (devs y))))) (repeated g)) (repeated s) (ix3 i r l)
      = Row.normDiv (fun k => y (ix3 i r k)) l (g (ix1 l)) (s (ix1 l)) := by
  unfold Row.normDiv Row.var
  pointwise [devs_apply, divisors_apply, means_apply, repeated_apply]

/-- The reference's result at an index, where the ids are below 1000. -/
theorem result_apply (x : FVec Ideal S4x2048x1024 .f32) (ids : IVec S4 32) (table : FVec Ideal S1000x128 .f32)
    (w : FVec Ideal S1024x128 .f32) (b g s : FVec Ideal S1024 .f32) (h : ∀ j, (ids j).toNat < 1000)
    (i : Fin 4) (r : Fin 2048) (l : Fin 1024) :
    result x ids table w b g s (ix3 i r l)
      = Row.normDiv
          (fun k => x (ix3 i r k)
            + Row.proj (fun n => table (ix2 ⟨(ids (ix1 i)).toNat, h _⟩ n)) (fun n => w (ix2 k n)) (b (ix1 k)))
          l (g (ix1 l)) (s (ix1 l)) := by
  unfold result
  refine (normalised_apply _ g s i r l).trans ?_
  simp only [rows_apply, Take.taken_apply _ _ h]

end Cert.ReferenceIdeal.RefRow

end
-- ==== Proof.Equation.lean ====
/- The kernel's result is the reference's, as functions of the arguments, where the ids are below 1000. -/
module

public import proofs.«01_k».proof.Proof.Blocks
public import proofs.«01_k».proof.Proof.RefRow

@[expose] public section

set_option maxRecDepth 16384

noncomputable section

namespace Cert.Equation

open Idealize.ShloMosaic Idealize.ShloMosaic.TcCoe
open Cert.KernelIdeal (S4x2048x1024 S4 S1000x128 S1024x128 S1024)

/-- The two results are one array: at each index both normalise the same row, the kernel multiplying by the reciprocal of the square root of
    the variance and the reference dividing by the square root. -/
theorem result_eq (x : FVec Ideal S4x2048x1024 .f32) (ids : IVec S4 32) (table : FVec Ideal S1000x128 .f32) (w : FVec Ideal S1024x128 .f32)
    (b g s : FVec Ideal S1024 .f32) (h : ∀ j, (ids j).toNat < 1000) :
    Cert.ReferenceIdeal.RefRow.result x ids table w b g s = Cert.KernelIdeal.Blocks.result x ids table w b g s h := by
  funext j
  idx_vars j
  exact (Cert.ReferenceIdeal.RefRow.result_apply x ids table w b g s h _ _ _).trans (Row.normMul_eq_normDiv _ _ _ _).symm

end Cert.Equation

end
-- ==== Proof.lean ====
/- The claims, assembled from the modules under Proof/. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_ids_in_range
public import proofs.«01_k».proof.Proof.Ids
public import proofs.«01_k».proof.Proof.Array
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs to the end, leaves its arguments as they were and its semaphores at zero. -/
theorem frame_kernel : Cert.quiescent_Kernel := fun m ρ h => Cert.Kernel.Gen.frame m ρ (Cert.Kernel.Ids.ok_of_pre m h)

/-- So does the kernel over extended reals. -/
theorem frame_kernelIdeal : Cert.quiescent_KernelIdeal := fun m ρ h =>
  Cert.KernelIdeal.Gen.frame m ρ (Cert.KernelIdeal.Ids.ok_of_pre m h)

/-- So does the reference over extended reals, whatever the ids are: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And so in particular where the ids are below 1000. -/
theorem frame_reference_in_range : Cert.quiescent_ReferenceIdeal_pre_ids_in_range := fun m ρ _ => frame_reference m ρ trivial

/-- Over extended reals the kernel and the reference end with equal results. -/
theorem same_result : Cert.algebraic_KernelIdeal_ReferenceIdeal := by
  intro m ρ m' ρ' hpre hagree
  have hids (c : Dev Cert.KernelIdeal.nD) := Cert.Ids.ids_lt _ _ _ _ _ _ _ (hpre c)
  refine ⟨Cert.KernelIdeal.Array.out m hids,
    Cert.KernelIdeal.Array.run m ρ (Cert.KernelIdeal.Ids.ok_of_pre m hpre) hids, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  refine (Cert.ReferenceIdeal.RefRow.result_eq m' c).trans ?_
  rw [e0, e1, e2, e3, e4, e5, e6]
  exact Cert.Equation.result_eq _ _ _ _ _ _ _ (hids c)

theorem claim : Cert.Claim := ⟨Cert.Kernel.Gen.facts, Cert.KernelIdeal.Gen.facts, Cert.ReferenceIdeal.Gen.facts, Cert.Pre_ids_in_range.Gen.facts,
  frame_kernel, frame_kernelIdeal, frame_reference, frame_reference_in_range, trivial, same_result⟩

end Cert.Proof

end
